-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S2048x11264 : Shape := ⟨2, ![2048, 11264]⟩
abbrev S_ : Shape := ⟨0, ![]⟩
abbrev S1 : Shape := ⟨1, ![1]⟩
abbrev S256x8192 : Shape := ⟨2, ![256, 8192]⟩
abbrev S256x11264 : Shape := ⟨2, ![256, 11264]⟩
abbrev S2048x512 : Shape := ⟨2, ![2048, 512]⟩
abbrev S256x512 : Shape := ⟨2, ![256, 512]⟩
abbrev S256x128 : Shape := ⟨2, ![256, 128]⟩
abbrev S256x128x1 : Shape := ⟨3, ![256, 128, 1]⟩
abbrev S512x512 : Shape := ⟨2, ![512, 512]⟩
abbrev S8x512 : Shape := ⟨2, ![8, 512]⟩
abbrev S16x512 : Shape := ⟨2, ![16, 512]⟩
abbrev S8192x512 : Shape := ⟨2, ![8192, 512]⟩

abbrev nBuf : Space → Nat
  | .hbm => 6
  | .vmem => 6
  | .smem => 1
  | _ => 0

abbrev bufTy : (tb : Table) → Fin (tcTables nBuf tb) → BufTy
  | .hbm, ⟨0, _⟩ => ⟨S256x1x8192, .bf16⟩
  | .hbm, ⟨1, _⟩ => ⟨S2048x11264, .i8⟩
  | .hbm, ⟨2, _⟩ => ⟨S_, .f32⟩
  | .hbm, ⟨3, _⟩ => ⟨S1, .f32⟩
  | .hbm, ⟨4, _⟩ => ⟨S256x8192, .bf16⟩
  | .hbm, ⟨5, _⟩ => ⟨S256x11264, .bf16⟩
  | .local _ .vmem, ⟨0, _⟩ => ⟨S256x8192, .bf16⟩
  | .local _ .vmem, ⟨1, _⟩ => ⟨S2048x512, .i8⟩
  | .local _ .vmem, ⟨2, _⟩ => ⟨S2048x512, .i8⟩
  | .local _ .vmem, ⟨3, _⟩ => ⟨S256x512, .bf16⟩
  | .local _ .vmem, ⟨4, _⟩ => ⟨S256x512, .bf16⟩
  | .local _ .vmem, ⟨5, _⟩ => ⟨S256x8192, .bf16⟩
  | .local _ .smem, ⟨0, _⟩ => ⟨S1, .f32⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![22], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x8192 : Shape := ⟨3, ![256, 1, 8192]⟩
abbrev S2048x11264 : Shape := ⟨2, ![2048, 11264]⟩
abbrev S_ : Shape := ⟨0, ![]⟩
abbrev S256x2048x4 : Shape := ⟨3, ![256, 2048, 4]⟩
abbrev S4x256x2048 : Shape := ⟨3, ![4, 256, 2048]⟩
abbrev S1x256x2048 : Shape := ⟨3, ![1, 256, 2048]⟩
abbrev S256x2048 : Shape := ⟨2, ![256, 2048]⟩
abbrev S256x11264 : Shape := ⟨2, ![256, 11264]⟩

abbrev nBuf : Space → Nat
  | .hbm => 67
  | .vmem => 0
  | .smem => 0
  | _ => 0

abbrev bufTy : (tb : Table) → Fin (tcTables nBuf tb) → BufTy
  | .hbm, ⟨0, _⟩ => ⟨S256x1x8192, .bf16⟩
  | .hbm, ⟨1, _⟩ => ⟨S2048x11264, .i8⟩
  | .hbm, ⟨2, _⟩ => ⟨S_, .f32⟩
  | .hbm, ⟨3, _⟩ => ⟨S256x2048x4, .bf16⟩
  | .hbm, ⟨4, _⟩ => ⟨S4x256x2048, .bf16⟩
  | .hbm, ⟨5, _⟩ => ⟨S1x256x2048, .bf16⟩
  | .hbm, ⟨6, _⟩ => ⟨S256x2048, .bf16⟩
  | .hbm, ⟨7, _⟩ => ⟨S2048x11264, .i32⟩
  | .hbm, ⟨8, _⟩ => ⟨S_, .i32⟩
  | .hbm, ⟨9, _⟩ => ⟨S2048x11264, .i32⟩
  | .hbm, ⟨10, _⟩ => ⟨S2048x11264, .i32⟩
  | .hbm, ⟨11, _⟩ => ⟨S_, .i32⟩
  | .hbm, ⟨12, _⟩ => ⟨S2048x11264, .i32⟩
  | .hbm, ⟨13, _⟩ => ⟨S2048x11264, .i32⟩
  | .hbm, ⟨14, _⟩ => ⟨S2048x11264, .bf16⟩
  | .hbm, ⟨15, _⟩ => ⟨S_, .bf16⟩
  | .hbm, ⟨16, _⟩ => ⟨S2048x11264, .bf16⟩
  | .hbm, ⟨17, _⟩ => ⟨S2048x11264, .bf16⟩
  | .hbm, ⟨18, _⟩ => ⟨S256x11264, .f32⟩
  | .hbm, ⟨19, _⟩ => ⟨S1x256x2048, .bf16⟩
  | .hbm, ⟨20, _⟩ => ⟨S256x2048, .bf16⟩
  | .hbm, ⟨21, _⟩ => ⟨S2048x11264, .i32⟩
  | .hbm, ⟨22, _⟩ => ⟨S_, .i32⟩
  | .hbm, ⟨23, _⟩ => ⟨S2048x11264, .i32⟩
  | .hbm, ⟨24, _⟩ => ⟨S2048x11264, .i32⟩
  | .hbm, ⟨25, _⟩ => ⟨S_, .i32⟩
  | .hbm, ⟨26, _⟩ => ⟨S2048x11264, .i32⟩
  | .hbm, ⟨27, _⟩ => ⟨S2048x11264, .i32⟩
  | .hbm, ⟨28, _⟩ => ⟨S2048x11264, .bf16⟩
  | .hbm, ⟨29, _⟩ => ⟨S_, .bf16⟩
  | .hbm, ⟨30, _⟩ => ⟨S2048x11264, .bf16⟩
  | .hbm, ⟨31, _⟩ => ⟨S2048x11264, .bf16⟩
  | .hbm, ⟨32, _⟩ => ⟨S256x11264, .f32⟩
  | .hbm, ⟨33, _⟩ => ⟨S256x11264, .f32⟩
  | .hbm, ⟨34, _⟩ => ⟨S1x256x2048, .bf16⟩
  | .hbm, ⟨35, _⟩ => ⟨S256x2048, .bf16⟩
  | .hbm, ⟨36, _⟩ => ⟨S2048x11264, .i32⟩
  | .hbm, ⟨37, _⟩ => ⟨S_, .i32⟩
  | .hbm, ⟨38, _⟩ => ⟨S2048x11264, .i32⟩
  | .hbm, ⟨39, _⟩ => ⟨S2048x11264, .i32⟩
  | .hbm, ⟨40, _⟩ => ⟨S_, .i32⟩
  | .hbm, ⟨41, _⟩ => ⟨S2048x11264, .i32⟩
  | .hbm, ⟨42, _⟩ => ⟨S2048x11264, .i32⟩
  | .hbm, ⟨43, _⟩ => ⟨S2048x11264, .bf16⟩
  | .hbm, ⟨44, _⟩ => ⟨S_, .bf16⟩
  | .hbm, ⟨45, _⟩ => ⟨S2048x11264, .bf16⟩
  | .hbm, ⟨46, _⟩ => ⟨S2048x11264, .bf16⟩
  | .hbm, ⟨47, _⟩ => ⟨S256x11264, .f32⟩
  | .hbm, ⟨48, _⟩ => ⟨S256x11264, .f32⟩
  | .hbm, ⟨49, _⟩ => ⟨S1x256x2048, .bf16⟩
  | .hbm, ⟨50, _⟩ => ⟨S256x2048, .bf16⟩
  | .hbm, ⟨51, _⟩ => ⟨S2048x11264, .i32⟩
  | .hbm, ⟨52, _⟩ => ⟨S_, .i32⟩
  | .hbm, ⟨53, _⟩ => ⟨S2048x11264, .i32⟩
  | .hbm, ⟨54, _⟩ => ⟨S2048x11264, .i32⟩
  | .hbm, ⟨55, _⟩ => ⟨S_, .i32⟩
  | .hbm, ⟨56, _⟩ => ⟨S2048x11264, .i32⟩
  | .hbm, ⟨57, _⟩ => ⟨S2048x11264, .i32⟩
  | .hbm, ⟨58, _⟩ => ⟨S2048x11264, .bf16⟩
  | .hbm, ⟨59, _⟩ => ⟨S_, .bf16⟩
  | .hbm, ⟨60, _⟩ => ⟨S2048x11264, .bf16⟩
  | .hbm, ⟨61, _⟩ => ⟨S2048x11264, .bf16⟩
  | .hbm, ⟨62, _⟩ => ⟨S256x11264, .f32⟩
  | .hbm, ⟨63, _⟩ => ⟨S256x11264, .f32⟩
  | .hbm, ⟨64, _⟩ => ⟨S256x11264, .f32⟩
  | .hbm, ⟨65, _⟩ => ⟨S256x11264, .f32⟩
  | .hbm, ⟨66, _⟩ => ⟨S256x11264, .bf16⟩
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Trit.lean ====
/-
  A packed byte holds four two-bit fields; a field f stands for the weight f - 1. This module states what one weight is
  (`trit`), and shows that both spellings of it denote that number in the extended reals: the plain one (shift, mask, convert,
  subtract one) and the one that writes the field into the low bits of the bf16 word of 128 and subtracts 129.
-/
module

public import Idealize.ShloMosaic.Lib.BitcastFour
public import Idealize.ShloMosaic.Lib.BitcastPair
public import Idealize.ShloMosaic.Lib.IdealHost
public import Idealize.ShloMosaic.Lib.ValueIdx
public import Idealize.ShloMosaic.Lib.Pointwise

@[expose] public section

set_option maxRecDepth 16384

noncomputable section

namespace Cert.Ternary

open Idealize.ShloMosaic Idealize.ShloMosaic.ValueIdx

/-- Field `j` of a packed byte: its bits `2j` and `2j + 1` read as a number below four. -/
def field (b : BitVec 8) (j : ℕ) : ℕ := b.toNat / 4 ^ j % 4

/-- The weight that field `j` of a packed byte stands for: the field minus one. -/
def trit (b : BitVec 8) (j : ℕ) : EReal := ((field b j : ℝ) : EReal) - 1

theorem field_lt (b : BitVec 8) (j : ℕ) : field b j < 4 := Nat.mod_lt _ (by decide)

/-- A field is settled by its two bits. -/
theorem field_eq_bits (b : BitVec 8) (j : ℕ) (hj : j < 4) :
    field b j = (b.getLsbD (2 * j)).toNat + 2 * (b.getLsbD (2 * j + 1)).toNat := by
  revert b
  have : j = 0 ∨ j = 1 ∨ j = 2 ∨ j = 3 := by omega
  rcases this with rfl | rfl | rfl | rfl <;> decide

/-- The bf16 word of 128 with a field in its two low bits denotes 128 plus that field; minus 129, it is the weight. -/
theorem ofBits_or_field (f : ℕ) (hf : f < 4) :
    Ideal.ofBits .bf16 (0x4300#16 ||| BitVec.ofNat 16 f) - Ideal.ofBits .bf16 0x4301#16 = ((f : ℝ) : EReal) - 1 := by
  have h129 : Ideal.ofBits .bf16 0x4301#16 = ((129 : ℝ) : EReal) := by
    simp [Ideal.ofBits, Ideal.ieee, -EReal.coe_mul]
  have h : Ideal.ofBits .bf16 (0x4300#16 ||| BitVec.ofNat 16 f) = ((128 + f : ℝ) : EReal) := by
    have : f = 0 ∨ f = 1 ∨ f = 2 ∨ f = 3 := by omega
    rcases this with rfl | rfl | rfl | rfl <;> simp [Ideal.ofBits, Ideal.ieee, -EReal.coe_mul, -EReal.coe_add] <;> norm_num [-EReal.coe_add]
  rw [h, h129, show (1 : EReal) = ((1 : ℝ) : EReal) by norm_cast, ← EReal.coe_sub, ← EReal.coe_sub]
  congr 1; ring

/-- The plain spelling: the byte widened to 32 bits, shifted right by `2j`, masked with 3, converted, minus one. -/
theorem plain_trit (b : BitVec 8) (j : ℕ) (hj : j < 4) (s : BitVec 32) (hs : s = BitVec.ofNat 32 (2 * j)) :
    FloatOps.subf (F := Ideal) (FloatOps.uitofp (F := Ideal) .bf16 (IntOp.andi (IntOp.shrui .host (b.setWidth 32) s) 3#32))
      (FloatOps.ofBits (F := Ideal) .bf16 0x3F80#16) = trit b j := by
  have e : (IntOp.andi (IntOp.shrui .host (b.setWidth 32) s) 3#32).toNat = field b j := by
    subst hs
    revert b
    have : j = 0 ∨ j = 1 ∨ j = 2 ∨ j = 3 := by omega
    rcases this with rfl | rfl | rfl | rfl <;> decide
  show ((((IntOp.andi (IntOp.shrui .host (b.setWidth 32) s) 3#32).toNat : ℝ) : EReal)) - Ideal.ofBits .bf16 0x3F80#16 = _
  rw [e, Ideal.ofBits_one_bf16]
  rfl

/-- Half `h` of a 32-bit word, shifted right by `2k` and masked to the two low bits of each half, with the bf16 word of 128
    written over each half. -/
theorem half_word (w : BitVec 32) (k h : ℕ) (hk : k < 8) (hh : h < 2) (s : BitVec 32) (hs : s = BitVec.ofNat 32 (2 * k)) :
    (IntOp.ori (IntOp.andi (IntOp.shrui .vector w s) 196611#32) 1124090624#32).extractLsb' (16 * h) 16
      = 0x4300#16 ||| BitVec.ofNat 16 ((w.getLsbD (16 * h + 2 * k)).toNat + 2 * (w.getLsbD (16 * h + 2 * k + 1)).toNat) := by
  subst hs
  have hs : IntOp.shrui .vector w (BitVec.ofNat 32 (2 * k)) = w >>> (2 * k) := by
    have : k = 0 ∨ k = 1 ∨ k = 2 ∨ k = 3 ∨ k = 4 ∨ k = 5 ∨ k = 6 ∨ k = 7 := by omega
    rcases this with rfl | rfl | rfl | rfl | rfl | rfl | rfl | rfl <;> rfl
  rw [hs]
  have hq : ∀ p q : Bool, ∀ i < 16, (BitVec.ofNat 16 (p.toNat + 2 * q.toNat)).getLsbD i = ((i == 0 && p) || (i == 1 && q)) := by decide
  apply BitVec.eq_of_getLsbD_eq
  intro i hi
  rw [BitVec.getLsbD_or, hq _ _ i hi]
  simp only [IntOp.ori, IntOp.andi, BitVec.getLsbD_or, BitVec.getLsbD_and, BitVec.getLsbD_extractLsb', BitVec.getLsbD_ushiftRight,
    hi, decide_true, Bool.true_and]
  have hm : ∀ h < 2, ∀ i < 16, (196611#32).getLsbD (16 * h + i) = (i == 0 || i == 1) := by decide
  have hc : ∀ h < 2, ∀ i < 16, (1124090624#32).getLsbD (16 * h + i) = (0x4300#16).getLsbD i := by decide
  rw [hm h hh i hi, hc h hh i hi]
  by_cases h0 : i = 0
  · subst h0; simp [show 2 * k + (16 * h + 0) = 16 * h + 2 * k by omega, Bool.or_comm, Nat.add_comm]
  · by_cases h1 : i = 1
    · subst h1; simp [show 2 * k + (16 * h + 1) = 16 * h + 2 * k + 1 by omega, Bool.or_comm]
    · rw [beq_eq_false_iff_ne.2 h0, beq_eq_false_iff_ne.2 h1]; simp

end Cert.Ternary

end
-- ==== Proof.Order.lean ====
/-
  The order in which the contraction runs. Inside each group of 128 consecutive columns of the activations, position
  16k + t (k < 8, t < 16) of the kernel's order is column 8t + k. This module states that permutation of the 8192 columns, and
  that a sum over the columns in that order is the four partial sums over the columns 4q, 4q + 1, 4q + 2 and 4q + 3.
-/
module

public import Mathlib.Algebra.BigOperators.Fin
public import Mathlib.Tactic.Abel
public import Mathlib.Tactic.Ring

@[expose] public section

namespace Cert.Ternary

/-- The column of the activations that stands at position `L` of the kernel's order. -/
def colOf (L : ℕ) : ℕ := 128 * (L / 128) + 8 * (L % 16) + L % 128 / 16

theorem colOf_lt {L : ℕ} (h : L < 8192) : colOf L < 8192 := by unfold colOf; omega

/-- Position `128b + 16k + t` holds column `128b + 8t + k`. -/
theorem colOf_eq (b k t : ℕ) (hk : k < 8) (ht : t < 16) : colOf (128 * b + 16 * k + t) = 128 * b + 8 * t + k := by
  have e1 : (128 * b + 16 * k + t) / 128 = b := by omega
  have e2 : (128 * b + 16 * k + t) % 16 = t := by omega
  have e3 : (128 * b + 16 * k + t) % 128 = 16 * k + t := by omega
  have e4 : (16 * k + t) / 16 = k := by omega
  rw [colOf, e1, e2, e3, e4]

/-- The position of a column in the kernel's order. -/
def posOf (K : ℕ) : ℕ := 128 * (K / 128) + 16 * (K % 8) + K % 128 / 8

theorem posOf_lt {K : ℕ} (h : K < 8192) : posOf K < 8192 := by unfold posOf; omega

theorem posOf_eq (b k t : ℕ) (hk : k < 8) (ht : t < 16) : posOf (128 * b + 8 * t + k) = 128 * b + 16 * k + t := by
  have e1 : (128 * b + 8 * t + k) / 128 = b := by omega
  have e2 : (128 * b + 8 * t + k) % 8 = k := by omega
  have e3 : (128 * b + 8 * t + k) % 128 = 8 * t + k := by omega
  have e4 : (8 * t + k) / 8 = t := by omega
  rw [posOf, e1, e2, e3, e4]

/-- The kernel's order is a permutation of the columns. -/
def colEquiv : Fin 8192 ≃ Fin 8192 where
  toFun L := ⟨colOf L.val, colOf_lt L.isLt⟩
  invFun K := ⟨posOf K.val, posOf_lt K.isLt⟩
  left_inv L := by
    apply Fin.ext
    show posOf (colOf L.val) = L.val
    have e : L.val = 128 * (L.val / 128) + 16 * (L.val % 128 / 16) + L.val % 128 % 16 := by omega
    rw [e, colOf_eq _ _ _ (by omega) (by omega), posOf_eq _ _ _ (by omega) (by omega)]
  right_inv K := by
    apply Fin.ext
    show colOf (posOf K.val) = K.val
    have e : K.val = 128 * (K.val / 128) + 8 * (K.val % 128 / 8) + K.val % 128 % 8 := by omega
    rw [e, posOf_eq _ _ _ (by omega) (by omega), colOf_eq _ _ _ (by omega) (by omega)]

/-- Columns written as `4q + j`. -/
def splitEquiv : Fin 4 × Fin 2048 ≃ Fin 8192 where
  toFun p := ⟨4 * p.2.val + p.1.val, by have := p.1.isLt; have := p.2.isLt; omega⟩
  invFun K := (⟨K.val % 4, by omega⟩, ⟨K.val / 4, by have := K.isLt; omega⟩)
  left_inv p := by
    have := p.1.isLt
    refine Prod.ext (Fin.ext ?_) (Fin.ext ?_)
    · show (4 * p.2.val + p.1.val) % 4 = p.1.val; omega
    · show (4 * p.2.val + p.1.val) / 4 = p.2.val; omega
  right_inv K := by apply Fin.ext; show 4 * (K.val / 4) + K.val % 4 = K.val; omega

/-- A sum over the columns in the kernel's order is the sum, over the four fields, of the sums over the packed rows. -/
theorem sum_colOf {M : Type*} [AddCommMonoid M] (g : ℕ → M) :
    ∑ L : Fin 8192, g (colOf L.val)
      = ((∑ q : Fin 2048, g (4 * q.val + 0) + ∑ q : Fin 2048, g (4 * q.val + 1)) + ∑ q : Fin 2048, g (4 * q.val + 2))
        + ∑ q : Fin 2048, g (4 * q.val + 3) := by
  rw [show (∑ L : Fin 8192, g (colOf L.val)) = ∑ K : Fin 8192, g K.val from
      Equiv.sum_comp colEquiv (fun K : Fin 8192 => g K.val),
    ← Equiv.sum_comp splitEquiv (fun K : Fin 8192 => g K.val), Fintype.sum_prod_type, Fin.sum_univ_four]
  rfl

end Cert.Ternary
-- ==== Proof.Piece.lean ====
/-
  The weight tile of one grid point. The kernel reads its packed bytes as 32-bit words (four rows of bytes per word), takes eight
  rows of words at a time, and makes eight pieces of sixteen rows of weights of each: piece k takes bits 2k and 2k + 1 of both
  halves of every word. The tile is those pieces one below the other. This module names the piece and the tile, for any float
  values, and shows that row L of the tile, in the extended reals, holds the weights of column `colOf L` of the activations.
-/
module

public import proofs.«01_k».proof.Proof.Trit
public import proofs.«01_k».proof.Proof.Order
public import Idealize.ShloMosaic.Lib.Pipeline.Value

@[expose] public section

set_option maxRecDepth 16384

noncomputable section

namespace Cert.Ternary

open Idealize.ShloMosaic hiding ix0 ix1 ix2 ix3
open Idealize.ShloMosaic.ValueIdx

abbrev B2048x512 : Shape := ⟨2, ![2048, 512]⟩
abbrev W512x512 : Shape := ⟨2, ![512, 512]⟩
abbrev W8x512 : Shape := ⟨2, ![8, 512]⟩
abbrev T16x512 : Shape := ⟨2, ![16, 512]⟩
abbrev T8192x512 : Shape := ⟨2, ![8192, 512]⟩

theorem slices_block (b : ℕ) (hb : b < 64) : W512x512.Slices ![8 * b, 0] W8x512 := by
  refine ⟨rfl, fun a => ?_⟩
  match a with
  | ⟨0, _⟩ => show 8 * b + 8 ≤ 512; omega
  | ⟨1, _⟩ => show 0 + 512 ≤ 512; omega

section AnyFloat
variable {F : FTy → Type} [FloatOps F]

/-- Piece `k` of eight rows of words: bits `2k` and `2k + 1` of each half under the bf16 word of 128, minus 129. -/
def piece (W : IVec W8x512 32) (k : ℕ) (h : W8x512.Bitcasts 32 T16x512 16) : FVec F T16x512 .bf16 :=
  subf (bitcastToFloat .bf16 (bitcast T16x512 16 (ori (andi (shrui W (broadcast W8x512 (BitVec.ofNat 32 (2 * k))))
    (broadcast W8x512 196611#32)) (broadcast W8x512 1124090624#32)) h)) (broadcast T16x512 (Scalar.ofBits .bf16 0x4301#16))

end AnyFloat

/-- 32-bit words read at 16 bits, at rank 2: row `p` is half `p % 2` of word row `p / 2`. -/
theorem bitcast_halves_apply (Z : W8x512.Idx → BitVec 32) (hc : W8x512.Bitcasts 32 T16x512 16) (p : Fin 16) (n : Fin 512) :
    bitcast T16x512 16 Z hc (ix2 p n)
      = (Z (ix2 (⟨p.val / 2, by have := p.isLt; omega⟩ : Fin 8) n)).extractLsb' (16 * (p.val % 2)) 16 := by
  rw [bitcast_32_16 Z hc (ix2 p n)]
  have hi : ∀ (q : ℕ) (hq : ∀ a : Fin W8x512.rank, a.val + 2 = W8x512.rank → q < W8x512.size a) (e : q = p.val / 2),
      hc.srcIdx (ix2 p n) q hq = ix2 (⟨p.val / 2, by have := p.isLt; omega⟩ : Fin 8) n := by
    intro q hq e
    funext c
    match c with
    | ⟨0, _⟩ => exact Fin.ext ((hc.srcIdx_row _ _ _ ⟨0, Nat.zero_lt_two⟩ rfl).trans e)
    | ⟨1, _⟩ => exact Fin.ext (hc.srcIdx_other _ _ _ ⟨1, Nat.one_lt_two⟩ (by show ¬ 1 + 2 = 2; omega))
  have hr : T16x512.row (ix2 p n) = p.val := rfl
  rw [hi _ _ (by rw [hr]), hr]

/-- A piece at an index, in the extended reals, over the two bits of the word. -/
theorem piece_word_apply (W : IVec W8x512 32) (k : ℕ) (hk : k < 8) (hc : W8x512.Bitcasts 32 T16x512 16) (p : Fin 16) (n : Fin 512)
    (v : BitVec 32) (hv : W (ix2 (⟨p.val / 2, by have := p.isLt; omega⟩ : Fin 8) n) = v) :
    piece (F := Ideal) W k hc (ix2 p n)
      = Ideal.ofBits .bf16 (0x4300#16 ||| BitVec.ofNat 16 ((v.getLsbD (16 * (p.val % 2) + 2 * k)).toNat
          + 2 * (v.getLsbD (16 * (p.val % 2) + 2 * k + 1)).toNat)) - Ideal.ofBits .bf16 0x4301#16 := by
  refine congrArg (fun z : BitVec 16 => Ideal.ofBits .bf16 z - Ideal.ofBits .bf16 0x4301#16)
    ((bitcast_halves_apply _ hc p n).trans ?_)
  subst hv
  exact half_word _ k (p.val % 2) hk (by omega) _ rfl

/-- A piece at an index, in the extended reals: the weight of the packed row and the field that the row of the tile stands for. -/
theorem piece_apply (w : B2048x512.Idx → BitVec 8) (hb : B2048x512.Bitcasts 8 W512x512 32) (b k : ℕ) (hb64 : b < 64) (hk : k < 8)
    (hs : W512x512.Slices ![8 * b, 0] W8x512) (hc : W8x512.Bitcasts 32 T16x512 16) (p : Fin 16) (n : Fin 512) :
    piece (F := Ideal) (extractStridedSlice W8x512 ![8 * b, 0] (bitcast W512x512 32 w hb) hs) k hc (ix2 p n)
      = trit (w (ix2 (⟨32 * b + 2 * p.val + k / 4, by have := p.isLt; omega⟩ : Fin 2048) n)) (k % 4) := by
  have hp := p.isLt
  rw [piece_word_apply _ k hk hc p n _ (extractStridedSlice_apply _ _ hs _ (ix2 (⟨8 * b + p.val / 2, by omega⟩ : Fin 512) n) (by
      intro a
      match a with
      | ⟨0, _⟩ => rfl
      | ⟨1, _⟩ => show n.val = 0 + n.val; omega))]
  have hbit : ∀ e < 2, (bitcast W512x512 32 w hb (ix2 (⟨8 * b + p.val / 2, by omega⟩ : Fin 512) n)).getLsbD (16 * (p.val % 2) + 2 * k + e)
      = (w (ix2 (⟨32 * b + 2 * p.val + k / 4, by omega⟩ : Fin 2048) n)).getLsbD (2 * (k % 4) + e) := by
    intro e he
    rw [bitcast_8_32_getLsbD_ix2 w hb _ n _ (by omega) (⟨32 * b + 2 * p.val + k / 4, by omega⟩ : Fin 2048) (by
      show 32 * b + 2 * p.val + k / 4 = 4 * (8 * b + p.val / 2) + (16 * (p.val % 2) + 2 * k + e) / 8
      omega)]
    congr 1
    omega
  have h0 := hbit 0 (by omega)
  have h1 := hbit 1 (by omega)
  simp only [Nat.add_zero] at h0
  rw [h0, h1, ← field_eq_bits _ _ (by omega), ofBits_or_field _ (field_lt _ _)]
  rfl

section AnyFloat
variable {F : FTy → Type} [FloatOps F]

/-- The pieces of the tile from piece `q` on, `c` of them: piece `q` is made of words `q / 8`, bits `q % 8`. -/
def pieces (X : ℕ → IVec W8x512 32) (h : W8x512.Bitcasts 32 T16x512 16) :
    ℕ → ℕ → List ((s : Shape) × (s.Idx → F .bf16))
  | 0, _ => []
  | c + 1, q => ⟨T16x512, piece (X (q / 8)) (q % 8) h⟩ :: pieces X h c (q + 1)

theorem pieces_length (X : ℕ → IVec W8x512 32) (h : W8x512.Bitcasts 32 T16x512 16) (c q : ℕ) :
    (pieces (F := F) X h c q).length = c := by
  induction c generalizing q with
  | zero => rfl
  | succ c ih => show (pieces X h c (q + 1)).length + 1 = c + 1; rw [ih]

theorem pieces_getElem (X : ℕ → IVec W8x512 32) (h : W8x512.Bitcasts 32 T16x512 16) (c q k : ℕ)
    (hk : k < (pieces (F := F) X h c q).length) :
    (pieces (F := F) X h c q)[k] = ⟨T16x512, piece (X ((q + k) / 8)) ((q + k) % 8) h⟩ := by
  induction c generalizing q k with
  | zero => exact absurd hk (Nat.not_lt_zero _)
  | succ c ih =>
    match k with
    | 0 => rfl
    | k + 1 =>
      show (pieces (F := F) X h c (q + 1))[k]'_ = _
      rw [ih (q + 1) k, show q + 1 + k = q + (k + 1) by omega]

theorem pieces_extents (X : ℕ → IVec W8x512 32) (h : W8x512.Bitcasts 32 T16x512 16) (c q k : ℕ) (hk : k ≤ c) :
    ((((pieces (F := F) X h c q).take k).map (·.1)).map fun s =>
      if h : s.rank = T8192x512.rank then s.size ((0 : Fin T8192x512.rank).cast h.symm) else 0).sum = 16 * k := by
  induction c generalizing q k with
  | zero => have : k = 0 := by omega
            subst this; rfl
  | succ c ih =>
    match k with
    | 0 => rfl
    | k + 1 =>
      have := ih (q + 1) k (by omega)
      show 16 + ((((pieces (F := F) X h c (q + 1)).take k).map (·.1)).map _).sum = _
      rw [this]; omega

/-- The concatenation of the 512 pieces at an index: row `L` is row `L % 16` of piece `L / 16`. -/
theorem concat_pieces_apply (X : ℕ → IVec W8x512 32) (h : W8x512.Bitcasts 32 T16x512 16)
    (hc : Shape.Concatenates ((pieces (F := F) X h 512 0).map (·.1)) T8192x512 0) (L : Fin 8192) (n : Fin 512) :
    concatenate T8192x512 0 (pieces (F := F) X h 512 0) hc (ix2 L n)
      = piece (F := F) (X (L.val / 128)) (L.val % 128 / 16) h (ix2 (⟨L.val % 16, by omega⟩ : Fin 16) n) := by
  have hL := L.isLt
  have hk : L.val / 16 < (pieces (F := F) X h 512 0).length := by rw [pieces_length]; omega
  refine (concatenate_apply_piece 0 _ hc (ix2 L n) (L.val / 16) hk T16x512
    (piece (F := F) (X (L.val / 128)) (L.val % 128 / 16) h) ?_ rfl (16 * (L.val / 16)) (pieces_extents X h 512 0 _ (by omega))
    (ix2 (⟨L.val % 16, by omega⟩ : Fin 16) n) ?_ ?_)
  · rw [pieces_getElem, show (0 + L.val / 16) / 8 = L.val / 128 by omega, show (0 + L.val / 16) % 8 = L.val % 128 / 16 by omega]
  · intro b hb
    match b with
    | ⟨0, _⟩ => exact absurd rfl hb
    | ⟨1, _⟩ => rfl
  · show 16 * (L.val / 16) + L.val % 16 = L.val
    omega

end AnyFloat

/-- The weight tile, in the extended reals: row `L` holds, for column `K = colOf L` of the activations, the weights of field
    `K % 4` of packed row `K / 4`. -/
theorem tile_apply (w : B2048x512.Idx → BitVec 8) (hb : B2048x512.Bitcasts 8 W512x512 32) (X : ℕ → IVec W8x512 32)
    (h : W8x512.Bitcasts 32 T16x512 16)
    (hX : ∀ (b : ℕ) (hb64 : b < 64), X b = extractStridedSlice W8x512 ![8 * b, 0] (bitcast W512x512 32 w hb) (slices_block b hb64))
    (hc : Shape.Concatenates ((pieces (F := Ideal) X h 512 0).map (·.1)) T8192x512 0) (L : Fin 8192) (n : Fin 512) :
    concatenate T8192x512 0 (pieces (F := Ideal) X h 512 0) hc (ix2 L n)
      = trit (w (ix2 (⟨colOf L.val / 4, by have := colOf_lt L.isLt; omega⟩ : Fin 2048) n)) (colOf L.val % 4) := by
  have hL := L.isLt
  rw [concat_pieces_apply, hX _ (by omega), piece_apply w hb (L.val / 128) (L.val % 128 / 16) (by omega) (by omega) _ h]
  have e4 : colOf L.val / 4 = 32 * (L.val / 128) + 2 * (L.val % 16) + L.val % 128 / 16 / 4 := by unfold colOf; omega
  have em : colOf L.val % 4 = L.val % 128 / 16 % 4 := by unfold colOf; omega
  rw [em]
  congr 3
  exact Fin.ext e4.symm

end Cert.Ternary

end
-- ==== Proof.Lanes.lean ====
/-
  The reordering of the activations. Before the first product the kernel reorders each group of 128 columns: lane l of the group
  takes lane 8 (l mod 16) + l div 16, the remainder and the quotient written as the floor division of signed words. This module
  names that reordering of one group, for any float values, and shows which element each lane takes.
-/
module

public import proofs.«01_k».proof.Proof.Order
public import Idealize.ShloMosaic.Lib.Pipeline.Value
public import Idealize.ShloMosaic.Lib.ValueIdx
public import Idealize.ShloMosaic.Lib.Pointwise

@[expose] public section

set_option maxRecDepth 16384

noncomputable section

namespace Cert.Ternary

open Idealize.ShloMosaic hiding ix0 ix1 ix2 ix3
open Idealize.ShloMosaic.ValueIdx

abbrev G256x128 : Shape := ⟨2, ![256, 128]⟩
abbrev G256x128x1 : Shape := ⟨3, ![256, 128, 1]⟩

/-- `v mod 16` of signed words, rounded towards minus infinity. -/
def floorRem (h : G256x128.Broadcasts G256x128) (v : IVec G256x128 32) : IVec G256x128 32 :=
  let d : BitVec 32 := Scalar.select (Scalar.cmpi .eq 16#32 0#32) 1#32 16#32
  let r : IVec G256x128 32 := remsi v (broadcast G256x128 d)
  select (andi (xori (cmpi .slt r (broadcast G256x128 0#32)) (broadcastTo G256x128 (broadcast G256x128 (Scalar.cmpi .slt d 0#32)) h))
    (cmpi .ne r (broadcast G256x128 0#32))) (addi r (broadcast G256x128 d)) r

/-- `v div 16` of signed words, rounded towards minus infinity. -/
def floorQuot (v : IVec G256x128 32) : IVec G256x128 32 :=
  let q : IVec G256x128 32 := divsi v (broadcast G256x128 16#32)
  select (andi (cmpi .ne (subi (extui 32 (cmpi .sgt v (broadcast G256x128 0#32))) (extui 32 (cmpi .slt v (broadcast G256x128 0#32))))
      (broadcast G256x128 (Scalar.subi (Scalar.extui (Scalar.cmpi .sgt 16#32 0#32)) (Scalar.extui (Scalar.cmpi .slt 16#32 0#32)))))
      (cmpi .ne (remsi v (broadcast G256x128 16#32)) (broadcast G256x128 0#32)))
    (subi q (broadcast G256x128 1#32)) q

/-- The lane that each lane takes: `8 (l mod 16) + l div 16`, a negative one moved up by 128. -/
def lanes (hi : G256x128.Iotas .tc 32 [1]) (h : G256x128.Broadcasts G256x128) : IVec G256x128 32 :=
  let v : IVec G256x128 32 := iota .tc G256x128 32 [1] hi
  let s : IVec G256x128 32 := addi (muli (floorRem h v) (broadcast G256x128 8#32)) (floorQuot v)
  select (cmpi .slt s (broadcast G256x128 0#32)) (addi s (broadcast G256x128 128#32)) s

section AnyFloat
variable {F : FTy → Type} [FloatOps F]

/-- One group of 128 columns, reordered. -/
def reorder (hi : G256x128.Iotas .tc 32 [1]) (h : G256x128.Broadcasts G256x128) (h0 : G256x128.ShapeCasts G256x128)
    (h1 : G256x128.ShapeCasts G256x128x1) (h2 : G256x128x1.ShapeCasts G256x128) (hb : FTy.bf16.bits < FTy.f32.bits)
    (x : FVec F G256x128 .bf16) : FVec F G256x128 .bf16 :=
  shapeCast G256x128 (truncf .bf16 (dynamicGather 1 (extf .f32 (shapeCast G256x128 x h0) hb)
    (shapeCast G256x128 (shapeCast G256x128x1 (lanes hi h) h1) h2)) hb) h0

end AnyFloat

/-- `lanes` on one word. -/
def laneOf (v : BitVec 32) : BitVec 32 :=
  let d : BitVec 32 := Scalar.select (Scalar.cmpi .eq 16#32 0#32) 1#32 16#32
  let r : BitVec 32 := IntOp.remsi .vector v d
  let m : BitVec 32 := Scalar.select (IntOp.andi (IntOp.xori (IntOp.cmpi .slt r 0#32) (Scalar.cmpi .slt d 0#32)) (IntOp.cmpi .ne r 0#32))
    (IntOp.addi r d) r
  let q : BitVec 32 := IntOp.divsi .vector v 16#32
  let f : BitVec 32 := Scalar.select (IntOp.andi (IntOp.cmpi .ne (IntOp.subi ((IntOp.cmpi .sgt v 0#32).setWidth 32) ((IntOp.cmpi .slt v 0#32).setWidth 32))
      (Scalar.subi (Scalar.extui (Scalar.cmpi .sgt 16#32 0#32)) (Scalar.extui (Scalar.cmpi .slt 16#32 0#32))))
      (IntOp.cmpi .ne (IntOp.remsi .vector v 16#32) 0#32)) (IntOp.subi q 1#32) q
  let s : BitVec 32 := IntOp.addi (IntOp.muli m 8#32) f
  Scalar.select (IntOp.cmpi .slt s 0#32) (IntOp.addi s 128#32) s

theorem laneOf_eq : ∀ l : Fin 128, (laneOf (BitVec.ofNat 32 l.val)).toNat % 128 = 8 * (l.val % 16) + l.val / 16 := by
  decide

theorem lanes_apply (hi : G256x128.Iotas .tc 32 [1]) (h : G256x128.Broadcasts G256x128) (i : Fin 256) (l : Fin 128) :
    lanes hi h (ix2 i l) = laneOf (BitVec.ofNat 32 l.val) := by
  have e : iota .tc G256x128 32 [1] hi (ix2 i l) = BitVec.ofNat 32 l.val := by
    show BitVec.ofNat 32 (0 * 128 + l.val) = _
    rw [Nat.zero_mul, Nat.zero_add]
  rw [← e]
  rfl

/-- Casting to a trailing unit axis and back changes nothing. -/
theorem shapeCast_unit_back {α : Type} (x : G256x128.Idx → α) (h1 : G256x128.ShapeCasts G256x128x1)
    (h2 : G256x128x1.ShapeCasts G256x128) (i : Fin 256) (l : Fin 128) :
    shapeCast G256x128 (shapeCast G256x128x1 x h1) h2 (ix2 i l) = x (ix2 i l) := by
  rw [shapeCast_apply _ h2 (ix2 i l) (ix3 i l (0 : Fin 1)) (by
      rw [Shape.rowMajor_val_three, Shape.rowMajor_val_two]
      show (i.val * 128 + l.val) * 1 + 0 = i.val * 128 + l.val; omega),
    shapeCast_apply _ h1 _ (ix2 i l) (by
      rw [Shape.rowMajor_val_three, Shape.rowMajor_val_two]
      show i.val * 128 + l.val = (i.val * 128 + l.val) * 1 + 0; omega)]

theorem shapeCast_same {α : Type} (x : G256x128.Idx → α) (h0 : G256x128.ShapeCasts G256x128) (j : G256x128.Idx) :
    shapeCast G256x128 x h0 j = x j := shapeCast_apply _ h0 j j rfl

/-- The reordered group at an index, in the extended reals. -/
theorem reorder_apply (hi : G256x128.Iotas .tc 32 [1]) (h : G256x128.Broadcasts G256x128) (h0 : G256x128.ShapeCasts G256x128)
    (h1 : G256x128.ShapeCasts G256x128x1) (h2 : G256x128x1.ShapeCasts G256x128) (hb : FTy.bf16.bits < FTy.f32.bits)
    (x : FVec Ideal G256x128 .bf16) (i : Fin 256) (l : Fin 128) :
    reorder hi h h0 h1 h2 hb x (ix2 i l)
      = x (ix2 i (⟨8 * (l.val % 16) + l.val / 16, by have := l.isLt; omega⟩ : Fin 128)) := by
  unfold reorder
  rw [shapeCast_same]
  show shapeCast G256x128 x h0 (fun b => if b = 1 then
    ⟨(shapeCast G256x128 (shapeCast G256x128x1 (lanes hi h) h1) h2 (ix2 i l)).toNat % G256x128.size b, _⟩ else ix2 i l b) = _
  rw [shapeCast_same]
  congr 1
  funext b
  apply Fin.ext
  match b with
  | ⟨0, _⟩ => rfl
  | ⟨1, _⟩ =>
    show (shapeCast G256x128 (shapeCast G256x128x1 (lanes hi h) h1) h2 (ix2 i l)).toNat % 128 = _
    rw [shapeCast_unit_back, lanes_apply, laneOf_eq]

end Cert.Ternary

end
-- ==== Proof.Tile.lean ====
/-
  One grid point of the kernel, for any float values and then in the extended reals: the activations reordered group by group
  (`permuted`), the weight tile (`weightTile`), and the block of the result that their product, the scale and the final rounding
  make (`outTile`). In the extended reals, entry (i, n) of the block is the scale times the sum over the four fields of the sums
  over the packed rows: the reordering of the activations and the row order of the weight tile are the same permutation.
-/
module

public import proofs.«01_k».proof.Proof.Piece
public import proofs.«01_k».proof.Proof.Lanes
public import Idealize.ShloMosaic.Lib.MatmulPlain

@[expose] public section

set_option maxRecDepth 16384

noncomputable section

namespace Cert.Ternary

open Idealize.ShloMosaic hiding ix0 ix1 ix2 ix3
open Idealize.ShloMosaic.ValueIdx

abbrev T256x8192 : Shape := ⟨2, ![256, 8192]⟩
abbrev T256x512 : Shape := ⟨2, ![256, 512]⟩

/-- Group `b` of 128 columns lies in the activations (`b` counted modulo 64, so that it does for every `b`). -/
theorem group_inb (b : ℕ) : ∀ a, (![0, 128 * (b % 64)] : Fin T256x8192.rank → ℕ) a + G256x128.size a ≤ T256x8192.size a := by
  intro a
  match a with
  | ⟨0, _⟩ => show 0 + 256 ≤ 256; omega
  | ⟨1, _⟩ => show 128 * (b % 64) + 128 ≤ 8192; omega

/-- The rectangle of group `b`. -/
def groupRect (b : ℕ) : Rect T256x8192 := Rect.unit ![0, 128 * (b % 64)] G256x128.size (group_inb b)

section AnyFloat
variable {F : FTy → Type} [FloatOps F]

/-- Eight rows of words of the packed bytes: the words from row `8b` on (`b` counted modulo 64). -/
def block (w : B2048x512.Idx → BitVec 8) (hb : B2048x512.Bitcasts 8 W512x512 32) (b : ℕ) : IVec W8x512 32 :=
  extractStridedSlice W8x512 ![8 * (b % 64), 0] (bitcast W512x512 32 w hb) (slices_block (b % 64) (Nat.mod_lt _ (by decide)))

theorem block_eq (w : B2048x512.Idx → BitVec 8) (hb : B2048x512.Bitcasts 8 W512x512 32) (b : ℕ) (h : b < 64) :
    block w hb b = extractStridedSlice W8x512 ![8 * b, 0] (bitcast W512x512 32 w hb) (slices_block b h) := by
  have key : ∀ c (hc : c < 64), c = b → extractStridedSlice W8x512 ![8 * c, 0] (bitcast W512x512 32 w hb) (slices_block c hc)
      = extractStridedSlice W8x512 ![8 * b, 0] (bitcast W512x512 32 w hb) (slices_block b h) := by
    rintro c hc rfl
    rfl
  exact key (b % 64) (Nat.mod_lt _ (by decide)) (Nat.mod_eq_of_lt h)

/-- The last `c` of the 512 pieces of the tile. -/
def lastPieces (X : ℕ → IVec W8x512 32) (h : W8x512.Bitcasts 32 T16x512 16) : ℕ → List ((s : Shape) × (s.Idx → F .bf16))
  | 0 => []
  | c + 1 => ⟨T16x512, piece (X ((511 - c) / 8)) ((511 - c) % 8) h⟩ :: lastPieces X h c

theorem lastPieces_eq (X : ℕ → IVec W8x512 32) (h : W8x512.Bitcasts 32 T16x512 16) (c : ℕ) (hc : c ≤ 512) :
    lastPieces (F := F) X h c = pieces X h c (512 - c) := by
  induction c with
  | zero => rfl
  | succ c ih =>
    show _ :: lastPieces X h c = _ :: pieces X h c (512 - (c + 1) + 1)
    rw [ih (by omega), show 512 - (c + 1) + 1 = 512 - c by omega, show 512 - (c + 1) = 511 - c by omega]

theorem lastPieces_shape (X : ℕ → IVec W8x512 32) (h : W8x512.Bitcasts 32 T16x512 16) (c : ℕ) :
    ∀ s ∈ (lastPieces (F := F) X h c).map (·.1), s = T16x512 := by
  induction c with
  | zero => intro s hs; exact absurd hs List.not_mem_nil
  | succ c ih =>
    intro s hs
    rcases List.mem_cons.mp hs with rfl | hs
    · rfl
    · exact ih s hs

/-- The 512 pieces of sixteen rows make up the 8192 rows of the tile. -/
theorem concatenates_pieces (X : ℕ → IVec W8x512 32) (h : W8x512.Bitcasts 32 T16x512 16) :
    Shape.Concatenates ((lastPieces (F := F) X h 512).map (·.1)) T8192x512 0 := by
  have hp : lastPieces (F := F) X h 512 = pieces X h 512 0 := lastPieces_eq X h 512 (le_refl _)
  refine ⟨?_, ?_, ?_⟩
  · rw [hp, List.length_map, pieces_length]; decide
  · intro s hs
    obtain rfl := lastPieces_shape X h 512 s hs
    refine ⟨rfl, fun b hb => ?_⟩
    match b with
    | ⟨0, _⟩ => exact absurd rfl hb
    | ⟨1, _⟩ => rfl
  · have e := pieces_extents (F := F) X h 512 0 512 (le_refl _)
    rw [List.take_of_length_le (by rw [pieces_length])] at e
    rw [hp]
    exact e

/-- The weight tile of one grid point. -/
def weightTile (w : B2048x512.Idx → BitVec 8) (hb : B2048x512.Bitcasts 8 W512x512 32) (h : W8x512.Bitcasts 32 T16x512 16) :
    FVec F T8192x512 .bf16 :=
  concatenate T8192x512 0 (lastPieces (F := F) (block w hb) h 512) (concatenates_pieces _ _)

/-- The block of the result that one grid point makes of the scale, the reordered activations and the packed bytes. -/
def outTile (s : F .f32) (y : FVec F T256x8192 .bf16) (w : B2048x512.Idx → BitVec 8) (hb : B2048x512.Bitcasts 8 W512x512 32)
    (h : W8x512.Bitcasts 32 T16x512 16) (ht : FTy.bf16.bits < FTy.f32.bits) : FVec F T256x512 .bf16 :=
  truncf .bf16 (mulf (matmul (DotDims.plain 256 8192 512) none y (weightTile w hb h) (constant T256x512 .f32 0x00000000#32))
    (broadcast T256x512 s)) ht

/-- Group `b` of 128 columns of the activations. -/
def group (x : FVec F T256x8192 .bf16) (b : ℕ) : FVec F G256x128 .bf16 := fun j => x ((groupRect b).idx j)

/-- The stores of the first `n` groups of 128 columns, the last one first. -/
def groups (f : ℕ → FVec F G256x128 .bf16) : ℕ → List (View.Piece (Elt F) T256x8192 .bf16)
  | 0 => []
  | n + 1 => ⟨groupRect n, f n⟩ :: groups f n

/-- The activations as the kernel's scratch holds them: each group of 128 columns reordered. -/
def permuted (hi : G256x128.Iotas .tc 32 [1]) (h : G256x128.Broadcasts G256x128) (h0 : G256x128.ShapeCasts G256x128)
    (h1 : G256x128.ShapeCasts G256x128x1) (h2 : G256x128x1.ShapeCasts G256x128) (hb : FTy.bf16.bits < FTy.f32.bits)
    (x : FVec F T256x8192 .bf16) : FVec F T256x8192 .bf16 :=
  View.canon (groups (fun b => reorder hi h h0 h1 h2 hb (group x b)) 64)

theorem mem_groups (f : ℕ → FVec F G256x128 .bf16) (n : ℕ) (p : View.Piece (Elt F) T256x8192 .bf16) (hp : p ∈ groups f n) :
    ∃ b < n, p = ⟨groupRect b, f b⟩ := by
  induction n with
  | zero => exact absurd hp List.not_mem_nil
  | succ n ih =>
    rcases List.mem_cons.mp hp with rfl | hp
    · exact ⟨n, Nat.lt_succ_self n, rfl⟩
    · obtain ⟨b, hb, e⟩ := ih hp
      exact ⟨b, Nat.lt_succ_of_lt hb, e⟩

theorem groups_mem (f : ℕ → FVec F G256x128 .bf16) (n b : ℕ) (hb : b < n) :
    (⟨groupRect b, f b⟩ : View.Piece (Elt F) T256x8192 .bf16) ∈ groups f n := by
  induction n with
  | zero => exact absurd hb (Nat.not_lt_zero _)
  | succ n ih =>
    rcases Nat.lt_succ_iff_lt_or_eq.mp hb with h | rfl
    · exact List.mem_cons_of_mem _ (ih h)
    · exact List.mem_cons_self

theorem groupRect_emb (b : ℕ) (hb : b < 64) (i : Fin 256) (l : Fin 128) :
    (groupRect b).emb (ix2 i l : G256x128.Idx) = (ix2 i (⟨128 * b + l.val, by omega⟩ : Fin 8192) : T256x8192.Idx) := by
  funext a
  apply Fin.ext
  match a with
  | ⟨0, _⟩ => show 0 + 1 * i.val = i.val; omega
  | ⟨1, _⟩ => show 128 * (b % 64) + 1 * l.val = 128 * b + l.val; rw [Nat.mod_eq_of_lt hb]; omega

/-- What the 64 stores leave at column `L`: what group `L / 128` stored at lane `L % 128`. -/
theorem canon_groups_apply (f : ℕ → FVec F G256x128 .bf16) (i : Fin 256) (L : Fin 8192) :
    View.canon (groups f 64) (ix2 i L : T256x8192.Idx)
      = f (L.val / 128) (ix2 i (⟨L.val % 128, Nat.mod_lt _ (by decide)⟩ : Fin 128)) := by
  have hL := L.isLt
  have hpos : (ix2 i L : T256x8192.Idx)
      = (groupRect (L.val / 128)).emb (ix2 i (⟨L.val % 128, Nat.mod_lt _ (by decide)⟩ : Fin 128) : G256x128.Idx) := by
    rw [groupRect_emb _ (by omega)]
    exact congrArg (fun k => ix2 i k) (Fin.ext (show L.val = 128 * (L.val / 128) + L.val % 128 by omega))
  refine (View.canon_apply_of_pieces (Val := Elt F) (e := .bf16) (S := T256x8192)
    (fun y => f ((y 1).val / 128) (ix2 (y 0) (⟨(y 1).val % 128, Nat.mod_lt _ (by decide)⟩ : Fin 128))) (groups f 64) ?_ (ix2 i L) ?_).trans rfl
  · intro p hp x
    obtain ⟨b, hb, rfl⟩ := mem_groups f 64 p hp
    obtain ⟨i', l', rfl⟩ : ∃ (i' : Fin 256) (l' : Fin 128), x = (ix2 i' l' : G256x128.Idx) := ⟨x 0, x 1, ValueIdx.eq_ix2 x⟩
    have hl := l'.isLt
    have e1 : (128 * b + l'.val) / 128 = b := by omega
    have e2 : (128 * b + l'.val) % 128 = l'.val := by omega
    show f b (ix2 i' l') = (fun y : T256x8192.Idx => f ((y 1).val / 128) (ix2 (y 0) (⟨(y 1).val % 128, Nat.mod_lt _ (by decide)⟩ : Fin 128)))
      ((groupRect b).emb (ix2 i' l' : G256x128.Idx))
    rw [groupRect_emb b hb]
    show f b (ix2 i' l') = f ((128 * b + l'.val) / 128) (ix2 i' (⟨(128 * b + l'.val) % 128, _⟩ : Fin 128))
    simp only [e1, e2]
  · refine ⟨_, groups_mem f 64 (L.val / 128) (by omega), ?_⟩
    rw [hpos, ← Rect.map_emb_univ]
    exact Finset.mem_map_of_mem _ (Finset.mem_univ _)

end AnyFloat

/-- The reordered activations, in the extended reals: column `L` holds column `colOf L`. -/
theorem permuted_apply (hi : G256x128.Iotas .tc 32 [1]) (h : G256x128.Broadcasts G256x128) (h0 : G256x128.ShapeCasts G256x128)
    (h1 : G256x128.ShapeCasts G256x128x1) (h2 : G256x128x1.ShapeCasts G256x128) (hb : FTy.bf16.bits < FTy.f32.bits)
    (x : FVec Ideal T256x8192 .bf16) (i : Fin 256) (L : Fin 8192) :
    permuted (F := Ideal) hi h h0 h1 h2 hb x (ix2 i L) = x (ix2 i (⟨colOf L.val, colOf_lt L.isLt⟩ : Fin 8192)) := by
  have hL := L.isLt
  unfold permuted
  rw [canon_groups_apply, reorder_apply]
  show x ((groupRect (L.val / 128)).emb (ix2 i (⟨8 * (L.val % 128 % 16) + L.val % 128 / 16, _⟩ : Fin 128) : G256x128.Idx)) = _
  rw [groupRect_emb _ (by omega)]
  refine congrArg (fun k => x (ix2 i k)) (Fin.ext ?_)
  show 128 * (L.val / 128) + (8 * (L.val % 128 % 16) + L.val % 128 / 16) = colOf L.val
  unfold colOf
  omega

/-- The weight tile, in the extended reals. -/
theorem weightTile_apply (w : B2048x512.Idx → BitVec 8) (hb : B2048x512.Bitcasts 8 W512x512 32) (h : W8x512.Bitcasts 32 T16x512 16)
    (L : Fin 8192) (n : Fin 512) :
    weightTile (F := Ideal) w hb h (ix2 L n)
      = trit (w (ix2 (⟨colOf L.val / 4, by have := colOf_lt L.isLt; omega⟩ : Fin 2048) n)) (colOf L.val % 4) := by
  have key : ∀ (l : List ((s : Shape) × (s.Idx → Ideal .bf16))) (hl : l = pieces (block w hb) h 512 0)
      (hc : Shape.Concatenates (l.map (·.1)) T8192x512 0),
      concatenate T8192x512 0 l hc (ix2 L n)
        = trit (w (ix2 (⟨colOf L.val / 4, by have := colOf_lt L.isLt; omega⟩ : Fin 2048) n)) (colOf L.val % 4) := by
    rintro l rfl hc
    exact tile_apply w hb (block w hb) h (block_eq w hb) hc L n
  exact key _ (lastPieces_eq _ _ 512 (le_refl _)) _

/-- One grid point's block, in the extended reals, over the activations in their own order. -/
theorem outTile_apply (hi : G256x128.Iotas .tc 32 [1]) (hbr : G256x128.Broadcasts G256x128) (h0 : G256x128.ShapeCasts G256x128)
    (h1 : G256x128.ShapeCasts G256x128x1) (h2 : G256x128x1.ShapeCasts G256x128) (ht : FTy.bf16.bits < FTy.f32.bits)
    (hb : B2048x512.Bitcasts 8 W512x512 32) (h : W8x512.Bitcasts 32 T16x512 16)
    (s : EReal) (x : FVec Ideal T256x8192 .bf16) (w : B2048x512.Idx → BitVec 8) (i : Fin 256) (n : Fin 512)
    (P : Fin 4 → EReal)
    (hP : ∀ j : Fin 4, P j = ∑ q : Fin 2048, x (ix2 i (⟨4 * q.val + j.val, by have := q.isLt; have := j.isLt; omega⟩ : Fin 8192))
      * trit (w (ix2 q n)) j.val) :
    outTile (F := Ideal) s (permuted hi hbr h0 h1 h2 ht x) w hb h ht (ix2 i n) = (((P 0 + P 1) + P 2) + P 3) * s := by
  have hsum : (FloatOps.matmul (F := Ideal) (φ₁ := .bf16) (φ₂ := .bf16) (DotDims.plain 256 8192 512) none (permuted hi hbr h0 h1 h2 ht x)
      (weightTile w hb h) (constant T256x512 .f32 0x00000000#32)) (ix2 i n) = ((P 0 + P 1) + P 2) + P 3 := by
    rw [Ideal.matmul_plain_apply]
    have hz : (constant (F := Ideal) T256x512 .f32 0x00000000#32) (ix2 i n) = (0 : EReal) := Ideal.ofBits_zero_f32
    rw [hz, zero_add]
    let g : ℕ → EReal := fun K => if hK : K < 8192 then
      x (ix2 i (⟨K, hK⟩ : Fin 8192)) * trit (w (ix2 (⟨K / 4, by omega⟩ : Fin 2048) n)) (K % 4) else 0
    have hg : ∀ L : Fin 8192, permuted (F := Ideal) hi hbr h0 h1 h2 ht x (ix2 i L) * weightTile (F := Ideal) w hb h (ix2 L n) = g (colOf L.val) := by
      intro L
      rw [permuted_apply, weightTile_apply]
      show _ = if hK : colOf L.val < 8192 then _ else (0 : EReal)
      rw [dif_pos (colOf_lt L.isLt)]
    have hq : ∀ j : Fin 4, ∑ q : Fin 2048, g (4 * q.val + j.val) = P j := by
      intro j
      rw [hP]
      refine Finset.sum_congr rfl fun q _ => ?_
      have hq := q.isLt
      have hj := j.isLt
      have e1 : (4 * q.val + j.val) / 4 = q.val := by omega
      have e2 : (4 * q.val + j.val) % 4 = j.val := by omega
      show (if hK : 4 * q.val + j.val < 8192 then _ else (0 : EReal)) = _
      rw [dif_pos (by omega)]
      simp only [e1, e2]
    rw [Finset.sum_congr rfl fun L _ => hg L, sum_colOf g]
    exact congrArg₂ (· + ·) (congrArg₂ (· + ·) (congrArg₂ (· + ·) (hq 0) (hq 1)) (hq 2)) (hq 3)
  exact congrArg (fun z : EReal => z * s) hsum

end Cert.Ternary

end
-- ==== Proof.KernelOut.lean ====
/-
  What one grid point of the kernel leaves, for any float values: in its block of the result, `outTile` of the scale, the reordered
  activations and the point's block of packed bytes; in the scratch, at the first point, the reordered activations. Each is the
  run's own term (the stores it found, read back) identified with the definitions of `Tile`.
-/
module

public import proofs.«01_k».proof.Proof.Gen.KernelIdeal.Frame
public import proofs.«01_k».proof.Proof.Tile

@[expose] public section

set_option maxRecDepth 65536

noncomputable section

namespace Cert.Ternary.Ker

open Idealize.ShloMosaic hiding ix0 ix1 ix2 ix3
open Idealize.ShloMosaic.ValueIdx Cert.KernelIdeal Cert.KernelIdeal.Gen Idealize.ShloMosaic.TcCoe Idealize.SL.Sem Idealize.ShloMosaic.Tactic

variable {F : FTy → Type} [FloatOps F]

/-- The reordering of the activations, at the program's own shape facts. -/
abbrev perm (x : Vec F S256x8192 .bf16) : Vec F S256x8192 .bf16 :=
  permuted (F := F) iota_S256x128_d1_w32 broadcasts_S256x128_S256x128 shapeCasts_S256x128_S256x128 shapeCasts_S256x128_S256x128x1
    shapeCasts_S256x128x1_S256x128 bitsLt_bf16_f32 x

/-- The block of the result of one grid point, at the program's own shape facts. -/
abbrev outOf (s : Elt F .f32) (y : Vec F S256x8192 .bf16) (w : Vec F S2048x512 .i8) : Vec F S256x512 .bf16 :=
  outTile (F := F) s y w bitcasts_S2048x512_w8_S512x512_w32 bitcasts_S8x512_w32_S16x512_w16 bitsLt_bf16_f32

theorem offsets_zero : (![0, 0] : Fin 2 → ℕ) = fun _ => 0 := by
  funext a
  match a with
  | ⟨0, _⟩ => rfl
  | ⟨1, _⟩ => rfl

variable (c : Dev nD) (i : grid0.Coords) (arg1 : Memref sig .tc .smem S1 .f32) (h1 : arg1.IsWhole)
  (arg2 : Memref sig .tc .vmem S256x8192 .bf16) (h2 : arg2.IsWhole) (arg3 : Memref sig .tc .vmem S2048x512 .i8) (h3 : arg3.IsWhole)
  (arg4 : Memref sig .tc .vmem S256x512 .bf16) (h4 : arg4.IsWhole) (arg5 : Memref sig .tc .vmem S256x8192 .bf16) (h5 : arg5.IsWhole)
  (x0 : Vec F S1 .f32) (x1 : Vec F S256x8192 .bf16) (x2 : Vec F S2048x512 .i8) (xs0 : Vec F S256x8192 .bf16)

/-- A load of the whole scratch after stores reads what the stores leave. -/
theorem readCov_whole (v : View sig .tc .vmem S256x8192 .bf16) (L : List (View.Piece (Elt F) S256x8192 .bf16))
    (h : ∀ a, (![0, 0] : Fin S256x8192.rank → ℕ) a + S256x8192.size a ≤ S256x8192.size a) :
    v.readCov L (Rect.unit (s := S256x8192) ![0, 0] S256x8192.size h).toLoadRect = View.canon L :=
  (View.readCov_eq_canon' v L _).trans (View.ld_unit_zero (S := S256x8192) offsets_zero h (View.canon L))

theorem index_one (j : S1.Idx) : j = ix1 (0 : Fin 1) := by
  funext a
  match a with
  | ⟨0, _⟩ => exact Subsingleton.elim (α := Fin 1) _ _

/-- The block of one grid point, of its weight tile. -/
theorem out_of_tile (y : Vec F S256x8192 .bf16) (s s' : Elt F .f32) (w : Vec F S2048x512 .i8) (t : FVec F S8192x512 .bf16)
    (ht : t = weightTile (F := F) w bitcasts_S2048x512_w8_S512x512_w32 bitcasts_S8x512_w32_S16x512_w16) (hs : s = s') :
    k0_pay3 y t s = outOf s' y w := by
  subst ht hs
  rfl

set_option maxHeartbeats 4000000 in
/-- At the points after the first, the block is made of the scratch as the point finds it. -/
theorem out_B (hc : ¬cond0_0 i) :
    out0_B_3 c i arg1 h1 arg2 h2 arg3 h3 arg4 h4 arg5 h5 hc x0 x1 x2 xs0 = outOf (x0 (ix1 (0 : Fin 1))) xs0 x2 := by
  unfold out0_B_3
  rw [View.read_writes_junk_eq_canon]
  unfold kernelRun0_B
  dsimp only
  sl_unfold_words
  rw [View.canon_unit_zero (S := S256x512) offsets_zero]
  simp only [View.readAt_eq_ld, h1.read_unread, h3.read_unread, h5.read_unread]
  rw [View.ld_unit_zero (S := S2048x512) offsets_zero, View.ld_unit_zero (S := S256x8192) offsets_zero]
  refine out_of_tile _ _ _ _ _ ?_ ?_
  · rfl
  · exact congrArg x0 (index_one _)

set_option maxHeartbeats 4000000 in
/-- At the first point the scratch is left at the reordered activations. -/
theorem sout_A (hc : cond0_0 i) :
    sout0_A_0 c i arg1 h1 arg2 h2 arg3 h3 arg4 h4 arg5 h5 hc x0 x1 x2 = perm x1 := by
  unfold sout0_A_0
  rw [View.read_writes_junk_eq_canon]
  unfold kernelRun0_A
  dsimp only
  sl_unfold_words
  simp only [View.readAt_eq_ld, h2.read_unread]
  rfl

set_option maxHeartbeats 4000000 in
/-- At the first point the block is made of the scratch that the point has just filled. -/
theorem out_A (hc : cond0_0 i) :
    out0_A_3 c i arg1 h1 arg2 h2 arg3 h3 arg4 h4 arg5 h5 hc x0 x1 x2 = outOf (x0 (ix1 (0 : Fin 1))) (perm x1) x2 := by
  unfold out0_A_3
  rw [View.read_writes_junk_eq_canon]
  unfold kernelRun0_A
  dsimp only
  sl_unfold_words
  rw [View.canon_unit_zero (S := S256x512) offsets_zero]
  simp only [View.readAt_eq_ld, h1.read_unread, h2.read_unread, h3.read_unread]
  rw [View.ld_unit_zero (S := S2048x512) offsets_zero, readCov_whole]
  refine out_of_tile _ _ _ _ _ ?_ ?_
  · rfl
  · exact congrArg x0 (index_one _)

end Cert.Ternary.Ker

end
-- ==== Proof.RefValue.lean ====
/-
  The reference read at one index: entry (i, n) of its result is the scale times the sum, over the four fields j, of the sums
  over the packed rows q of column 4q + j of row i of the activations times the weight of field j of byte (q, n).
-/
module

public import proofs.«01_k».proof.Proof.Gen.ReferenceIdeal
public import proofs.«01_k».proof.Proof.Trit
public import Idealize.ShloMosaic.Lib.MatmulPlain
public import Idealize.ShloMosaic.Lib.StackMember
public import Idealize.ShloMosaic.Lib.Pipeline.Value

@[expose] public section

set_option maxRecDepth 16384

noncomputable section

namespace Cert.Ternary.Ref

open Idealize.ShloMosaic hiding ix0 ix1 ix2 ix3
open Idealize.ShloMosaic.ValueIdx Cert.ReferenceIdeal Cert.ReferenceIdeal.Gen

/-- The columns of one field, as the reference takes them out of the activations: entry (i, q) is column 4q + j of row i. -/
theorem columns_apply (x : S256x1x8192.Idx → EReal) (j : ℕ) (hj : j < 4) (h1 : S256x1x8192.ShapeCasts S256x2048x4)
    (h2 : S256x2048x4.Transposes [2, 0, 1] S4x256x2048) (h3 : S4x256x2048.Slices ![j, 0, 0] S1x256x2048)
    (h4 : S1x256x2048.ShapeCasts S256x2048) (i : Fin 256) (q : Fin 2048) (K : Fin 8192) (hK : K.val = 4 * q.val + j) :
    shapeCast S256x2048 (extractStridedSlice S1x256x2048 ![j, 0, 0] (transpose S4x256x2048 [2, 0, 1]
        (shapeCast S256x2048x4 x h1) h2) h3) h4 (ix2 i q) = x (ix3 i (0 : Fin 1) K) := by
  rw [shapeCast_apply _ h4 (ix2 i q) (ix3 (0 : Fin 1) i q) (by
      rw [Shape.rowMajor_val_three, Shape.rowMajor_val_two]
      show (0 * 256 + i.val) * 2048 + q.val = i.val * 2048 + q.val; omega),
    extractStridedSlice_apply _ _ h3 _ (ix3 (⟨j, hj⟩ : Fin 4) i q) (by
      intro a
      match a with
      | ⟨0, _⟩ => rfl
      | ⟨1, _⟩ => show i.val = 0 + i.val; omega
      | ⟨2, _⟩ => show q.val = 0 + q.val; omega),
    transpose_apply _ _ h2 _ (ix3 i q (⟨j, hj⟩ : Fin 4)) (by
      intro b
      match b with
      | ⟨0, _⟩ => rfl
      | ⟨1, _⟩ => rfl
      | ⟨2, _⟩ => rfl),
    shapeCast_apply _ h1 _ (ix3 i (0 : Fin 1) K) (by
      rw [Shape.rowMajor_val_three, Shape.rowMajor_val_three]
      show (i.val * 1 + 0) * 8192 + K.val = (i.val * 2048 + q.val) * 4 + j; omega)]

/-- The weights of one field, as the reference takes them out of the packed bytes. -/
theorem weights_apply (w : S2048x11264.Idx → BitVec 8) (j : ℕ) (hj : j < 4) (s : BitVec 32) (hs : s = BitVec.ofNat 32 (2 * j))
    (h : (8 : ℕ) < 32) (hb : (S_).BroadcastsInDim S2048x11264 ![]) (k : S2048x11264.Idx) :
    subf (F := Ideal) (φ := .bf16) (uitofp .bf16 (andi (Host.shrui (extui 32 w h) (broadcastInDim S2048x11264 ![] hb (constantI S_ 32 s)))
      (broadcastInDim S2048x11264 ![] hb (constantI S_ 32 3#32)))) (broadcastInDim S2048x11264 ![] hb (constant S_ .bf16 0x3F80#16)) k
      = trit (w k) j :=
  plain_trit (w k) j hj s hs

/-- The dot of one field at an index. -/
theorem dot_apply (l : FVec Ideal S256x2048 .bf16) (r : FVec Ideal S2048x11264 .bf16) (i : Fin 256) (n : Fin 11264) :
    Host.dotGeneral (F := Ideal) dot_S256x2048_S2048x11264_S256x11264_1_0_0_1_n_n none l r (ix2 i n)
      = ∑ q : Fin 2048, l (ix2 i q) * r (ix2 q n) := by
  rw [show dot_S256x2048_S2048x11264_S256x11264_1_0_0_1_n_n = DotDims.plain 256 2048 11264 from rfl]
  exact StackMember.dotGeneral_plain_apply _ _ _ _ _

/-- The partial sum of field `j`: row `i` of the activations at the columns `4q + j`, times the weights of field `j`. -/
def part (x : S256x1x8192.Idx → EReal) (w : S2048x11264.Idx → BitVec 8) (i : Fin 256) (n : Fin 11264) (j : Fin 4) : EReal :=
  ∑ q : Fin 2048, x (ix3 i (0 : Fin 1) (⟨4 * q.val + j.val, by have := q.isLt; have := j.isLt; omega⟩ : Fin 8192)) * trit (w (ix2 q n)) j.val

/-- The reference's result, as its run names it, at the index (i, n). -/
theorem result_apply (x : FVec Ideal S256x1x8192 .bf16) (w : IVec S2048x11264 8) (s : FVec Ideal S_ .f32) (i : Fin 256) (n : Fin 11264) :
    (truncf .bf16 (mulf (addf (addf (addf (Host.dotGeneral dot_S256x2048_S2048x11264_S256x11264_1_0_0_1_n_n none (shapeCast _ (extractStridedSlice S1x256x2048 ![0, 0, 0] (transpose S4x256x2048 [2, 0, 1] (shapeCast _ x shapeCasts_S256x1x8192_S256x2048x4) transposes_S256x2048x4_S4x256x2048_2_0_1) slices_S4x256x2048_S1x256x2048_0_0_0) shapeCasts_S1x256x2048_S256x2048) (subf (uitofp .bf16 (andi (Host.shrui (extui 32 w natLt_8_32) (broadcastInDim S2048x11264 ![] bcast_S_S2048x11264 (constantI S_ 32 0#32))) (broadcastInDim S2048x11264 ![] bcast_S_S2048x11264 (constantI S_ 32 3#32)))) (broadcastInDim S2048x11264 ![] bcast_S_S2048x11264 (constant S_ .bf16 0x3F80#16)))) (Host.dotGeneral dot_S256x2048_S2048x11264_S256x11264_1_0_0_1_n_n none (shapeCast _ (extractStridedSlice S1x256x2048 ![1, 0, 0] (transpose S4x256x2048 [2, 0, 1] (shapeCast _ x shapeCasts_S256x1x8192_S256x2048x4) transposes_S256x2048x4_S4x256x2048_2_0_1) slices_S4x256x2048_S1x256x2048_1_0_0) shapeCasts_S1x256x2048_S256x2048) (subf (uitofp .bf16 (andi (Host.shrui (extui 32 w natLt_8_32) (broadcastInDim S2048x11264 ![] bcast_S_S2048x11264 (constantI S_ 32 2#32))) (broadcastInDim S2048x11264 ![] bcast_S_S2048x11264 (constantI S_ 32 3#32)))) (broadcastInDim S2048x11264 ![] bcast_S_S2048x11264 (constant S_ .bf16 0x3F80#16))))) (Host.dotGeneral dot_S256x2048_S2048x11264_S256x11264_1_0_0_1_n_n none (shapeCast _ (extractStridedSlice S1x256x2048 ![2, 0, 0] (transpose S4x256x2048 [2, 0, 1] (shapeCast _ x shapeCasts_S256x1x8192_S256x2048x4) transposes_S256x2048x4_S4x256x2048_2_0_1) slices_S4x256x2048_S1x256x2048_2_0_0) shapeCasts_S1x256x2048_S256x2048) (subf (uitofp .bf16 (andi (Host.shrui (extui 32 w natLt_8_32) (broadcastInDim S2048x11264 ![] bcast_S_S2048x11264 (constantI S_ 32 4#32))) (broadcastInDim S2048x11264 ![] bcast_S_S2048x11264 (constantI S_ 32 3#32)))) (broadcastInDim S2048x11264 ![] bcast_S_S2048x11264 (constant S_ .bf16 0x3F80#16))))) (Host.dotGeneral dot_S256x2048_S2048x11264_S256x11264_1_0_0_1_n_n none (shapeCast _ (extractStridedSlice S1x256x2048 ![3, 0, 0] (transpose S4x256x2048 [2, 0, 1] (shapeCast _ x shapeCasts_S256x1x8192_S256x2048x4) transposes_S256x2048x4_S4x256x2048_2_0_1) slices_S4x256x2048_S1x256x2048_3_0_0) shapeCasts_S1x256x2048_S256x2048) (subf (uitofp .bf16 (andi (Host.shrui (extui 32 w natLt_8_32) (broadcastInDim S2048x11264 ![] bcast_S_S2048x11264 (constantI S_ 32 6#32))) (broadcastInDim S2048x11264 ![] bcast_S_S2048x11264 (constantI S_ 32 3#32)))) (broadcastInDim S2048x11264 ![] bcast_S_S2048x11264 (constant S_ .bf16 0x3F80#16))))) (broadcastInDim S256x11264 ![] bcast_S_S256x11264 s)) bitsLt_bf16_f32 : FVec Ideal S256x11264 .bf16) (ix2 i n)
      = (((part x w i n 0 + part x w i n 1) + part x w i n 2) + part x w i n 3) * s ix0 := by
  have hd : ∀ (j : Fin 4) (l : FVec Ideal S256x2048 .bf16) (r : FVec Ideal S2048x11264 .bf16),
      (∀ q : Fin 2048, l (ix2 i q) = x (ix3 i (0 : Fin 1) (⟨4 * q.val + j.val, by have := q.isLt; have := j.isLt; omega⟩ : Fin 8192))) →
      (∀ q : Fin 2048, r (ix2 q n) = trit (w (ix2 q n)) j.val) →
      Host.dotGeneral (F := Ideal) dot_S256x2048_S2048x11264_S256x11264_1_0_0_1_n_n none l r (ix2 i n) = part x w i n j := by
    intro j l r hl hr
    rw [dot_apply]
    exact Finset.sum_congr rfl fun q _ => by rw [hl q, hr q]
  refine congrArg₂ (fun a b : EReal => a * b) (congrArg₂ (fun a b : EReal => a + b) (congrArg₂ (fun a b : EReal => a + b)
    (congrArg₂ (fun a b : EReal => a + b) (hd 0 _ _ ?_ ?_) (hd 1 _ _ ?_ ?_)) (hd 2 _ _ ?_ ?_)) (hd 3 _ _ ?_ ?_))
    (broadcastInDim_scalar_apply _ _ _)
  · exact fun q => columns_apply x 0 (by decide) _ _ _ _ i q _ rfl
  · exact fun q => weights_apply w 0 (by decide) _ (by decide) _ _ _
  · exact fun q => columns_apply x 1 (by decide) _ _ _ _ i q _ rfl
  · exact fun q => weights_apply w 1 (by decide) _ (by decide) _ _ _
  · exact fun q => columns_apply x 2 (by decide) _ _ _ _ i q _ rfl
  · exact fun q => weights_apply w 2 (by decide) _ (by decide) _ _ _
  · exact fun q => columns_apply x 3 (by decide) _ _ _ _ i q _ rfl
  · exact fun q => weights_apply w 3 (by decide) _ (by decide) _ _ _

end Cert.Ternary.Ref

end
-- ==== Proof.KernelValue.lean ====
/-
  The kernel's result. After every grid point the scratch holds the reordered activations (filled at the first point, kept by the
  others), so every point's block of the result is `outTile` of the whole activations and the point's block of packed bytes. In the
  extended reals that is the reference's value at every index.
-/
module

public import proofs.«01_k».proof.Proof.Gen.KernelIdeal.Value
public import proofs.«01_k».proof.Proof.KernelOut
public import proofs.«01_k».proof.Proof.RefValue

@[expose] public section

set_option maxRecDepth 16384

noncomputable section

namespace Cert.Ternary.Ker

open Idealize.ShloMosaic hiding ix0 ix1 ix2 ix3
open Idealize.ShloMosaic.ValueIdx Cert.KernelIdeal Cert.KernelIdeal.Gen Idealize.ShloMosaic.TcCoe Idealize.SL.Sem

variable {F : FTy → Type} [FloatOps F]
variable (m : (ℓ : Loc nD τ sig) → Buf (Elt F) ℓ)

/-! ## The blocks the grid points read -/

theorem V_v1 (c : Dev nD) : V m c main_v1 = shapeCast S256x8192 (m ((c : Thread nD τ).loc main_arg0)) shapeCasts_S256x1x8192_S256x8192 := rfl

theorem V_v0 (c : Dev nD) : V m c main_v0 = shapeCast S1 (m ((c : Thread nD τ).loc main_arg2)) shapeCasts_S_S1 := rfl

/-- Every point reads the whole of the activations. -/
theorem iblk1_apply (c : Dev nD) (t : Fin cfg0.N) (i : Fin 256) (K : Fin 8192) :
    iblk m c 1 t (ix2 i K : S256x8192.Idx) = m ((c : Thread nD τ).loc main_arg0) (ix3 i (0 : Fin 1) K : S256x1x8192.Idx) := by
  refine (show _ = V m c main_v1 (ix2 i K : S256x8192.Idx) from ?_).trans ?_
  · refine congrArg (V m c main_v1) ?_
    funext a
    apply Fin.ext
    match a with
    | ⟨0, _⟩ => show 0 * 256 + 1 * i.val = i.val; omega
    | ⟨1, _⟩ => show 0 * 8192 + 1 * K.val = K.val; omega
  · rw [V_v1]
    refine shapeCast_apply _ _ _ (ix3 i (0 : Fin 1) K) ?_
    rw [Shape.rowMajor_val_three, Shape.rowMajor_val_two]
    show (i.val * 1 + 0) * 8192 + K.val = i.val * 8192 + K.val
    omega

theorem index2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Point `t` reads the columns of packed bytes from `512 t` on. -/
theorem iblk2_apply (c : Dev nD) (t : Fin cfg0.N) (q : Fin 2048) (n : Fin 512) (N : Fin 11264) (hN : N.val = 512 * t.val + n.val) :
    iblk m c 2 t (ix2 q n : S2048x512.Idx) = m ((c : Thread nD τ).loc main_arg1) (ix2 q N : S2048x11264.Idx) := by
  obtain ⟨e0, e1⟩ := index2 t
  refine congrArg (V m c main_arg1) ?_
  funext a
  apply Fin.ext
  match a with
  | ⟨0, _⟩ => show win0_2.index t (0 : Fin 2) * 2048 + 1 * q.val = q.val; omega
  | ⟨1, _⟩ => show win0_2.index t (1 : Fin 2) * 512 + 1 * n.val = N.val; omega

/-- Every point reads the scale. -/
theorem iblk0_apply (c : Dev nD) (t : Fin cfg0.N) (j : S1.Idx) :
    iblk m c 0 t j = m ((c : Thread nD τ).loc main_arg2) (ix0 : S_.Idx) := by
  refine (show _ = V m c main_v0 j from ?_).trans ?_
  · refine congrArg (V m c main_v0) ?_
    funext a
    apply Fin.ext
    match a with
    | ⟨0, h⟩ => show 0 * 1 + 1 * (j ⟨0, h⟩).val = (j ⟨0, h⟩).val; omega
  · rw [V_v0]
    exact congrArg (m ((c : Thread nD τ).loc main_arg2)) (eq_ix0 _)

/-- The activations' block does not depend on the point. -/
theorem iblk1_const (c : Dev nD) (t t' : Fin cfg0.N) : iblk m c 1 t = iblk m c 1 t' := by
  have key : ∀ j : S256x8192.Idx, iblk m c 1 t j = iblk m c 1 t' j := by
    intro j
    obtain ⟨i, K, rfl⟩ : ∃ (i : Fin 256) (K : Fin 8192), j = (ix2 i K : S256x8192.Idx) := ⟨j 0, j 1, ValueIdx.eq_ix2 j⟩
    rw [iblk1_apply, iblk1_apply]
  exact funext key

/-! ## The scratch and the blocks of the result -/

/-- After every point the scratch holds the reordered activations. -/
theorem scratch_eq (c : Dev nD) (n : ℕ) (hn : n < cfg0.N) :
    (outsAt0 m c n hn).2 = perm (iblk m c 1 ⟨n, hn⟩) := by
  induction n with
  | zero =>
    rw [outsAt0_A m c ⟨0, hn⟩ (Nat.zero_mod _)]
    dsimp only
    exact sout_A (F := F) c _ _ _ _ _ _ _ _ _ _ _ _ _ _ _
  | succ n ih =>
    have hN := lt_of_lt_of_eq hn (show cfg0.N = 22 from N_0)
    have e := ih (Nat.lt_of_succ_lt hn)
    rw [outsAt0_B m c ⟨n + 1, hn⟩ (by show ¬(n + 1) % 22 = 0; omega)]
    refine Eq.trans ?_ (e.trans (congrArg perm (iblk1_const m c _ _)))
    rfl

/-- Every point's block of the result, over the whole activations. -/
theorem block_eq (c : Dev nD) (n : ℕ) (hn : n < cfg0.N) :
    (outsAt0 m c n hn).1 = outOf (iblk m c 0 ⟨n, hn⟩ (ix1 (0 : Fin 1) : S1.Idx)) (perm (iblk m c 1 ⟨n, hn⟩)) (iblk m c 2 ⟨n, hn⟩) := by
  have hN := lt_of_lt_of_eq hn (show cfg0.N = 22 from N_0)
  cases n with
  | zero =>
    rw [outsAt0_A m c ⟨0, hn⟩ (Nat.zero_mod _)]
    dsimp only
    exact out_A (F := F) c _ _ _ _ _ _ _ _ _ _ _ _ _ _ _
  | succ n =>
    rw [outsAt0_B m c ⟨n + 1, hn⟩ (by show ¬(n + 1) % 22 = 0; omega)]
    dsimp only
    refine (out_B (F := F) c _ _ _ _ _ _ _ _ _ _ _ _ _ _ _ _).trans ?_
    have e := scratch_eq m c n (Nat.lt_of_succ_lt hn)
    exact congrArg (fun y => outOf (iblk m c 0 ⟨n + 1, hn⟩ (ix1 (0 : Fin 1) : S1.Idx)) y (iblk m c 2 ⟨n + 1, hn⟩))
      (e.trans (congrArg perm (iblk1_const m c _ _)))

end Cert.Ternary.Ker

namespace Cert.Ternary.Ker

open Idealize.ShloMosaic hiding ix0 ix1 ix2 ix3
open Idealize.ShloMosaic.ValueIdx Cert.KernelIdeal Cert.KernelIdeal.Gen Idealize.ShloMosaic.TcCoe Idealize.SL.Sem

variable (m : (ℓ : Loc nD τ sig) → Buf (Elt Ideal) ℓ)

/-- The kernel's result in the extended reals: entry (i, N) is the scale times the sum, over the four fields, of the sums over the
    packed rows. -/
theorem result_apply (c : Dev nD) (i : Fin 256) (N : Fin 11264) :
    Value.G3 m c (ix2 i N : S256x11264.Idx)
      = (((Ref.part (m ((c : Thread nD τ).loc main_arg0)) (m ((c : Thread nD τ).loc main_arg1)) i N 0
          + Ref.part (m ((c : Thread nD τ).loc main_arg0)) (m ((c : Thread nD τ).loc main_arg1)) i N 1)
          + Ref.part (m ((c : Thread nD τ).loc main_arg0)) (m ((c : Thread nD τ).loc main_arg1)) i N 2)
          + Ref.part (m ((c : Thread nD τ).loc main_arg0)) (m ((c : Thread nD τ).loc main_arg1)) i N 3)
        * m ((c : Thread nD τ).loc main_arg2) (ix0 : S_.Idx) := by
  have hi := i.isLt
  have hNl := N.isLt
  have hp : Value.pt3Of (ix2 i N : S256x11264.Idx) = N.val / 512 := by
    show 22 * (i.val / 256 - 0) + 1 * (N.val / 512 - 0) = N.val / 512
    omega
  have hlt : Value.pt3Of (ix2 i N : S256x11264.Idx) < cfg0.N := by
    rw [hp]
    exact lt_of_lt_of_eq (by omega) (show cfg0.N = 22 from N_0).symm
  have hloc : Value.loc3Of (ix2 i N : S256x11264.Idx) = (ix2 i (⟨N.val % 512, Nat.mod_lt _ (by decide)⟩ : Fin 512) : S256x512.Idx) := by
    funext a
    apply Fin.ext
    match a with
    | ⟨0, _⟩ => show i.val % 256 = i.val; omega
    | ⟨1, _⟩ => rfl
  have e : Value.G3 m c (ix2 i N : S256x11264.Idx)
      = (outsAt0 m c (Value.pt3Of (ix2 i N : S256x11264.Idx)) hlt).1 (Value.loc3Of (ix2 i N : S256x11264.Idx)) := by
    unfold Value.G3
    rw [dif_pos hlt, ← Value.outsAt0_sweep]
  rw [e, hloc, block_eq]
  refine (outTile_apply _ _ _ _ _ _ _ _ _ _ _ i _ (fun j => Ref.part (m ((c : Thread nD τ).loc main_arg0)) (m ((c : Thread nD τ).loc main_arg1)) i N j) ?_).trans ?_
  · intro j
    unfold Ref.part
    refine Finset.sum_congr rfl fun q _ => ?_
    rw [iblk1_apply, iblk2_apply m c _ q _ N (by
      show N.val = 512 * Value.pt3Of (ix2 i N : S256x11264.Idx) + N.val % 512
      rw [hp]; omega)]
  · rw [iblk0_apply]

end Cert.Ternary.Ker

end
-- ==== Proof.lean ====
/-
  The proof of `Cert.Claim` (proofs.«01_k».proof.Defs). Each frame claim is the program's generated frame, or its reference run
  weakened. The value claim sets the kernel's generated value run beside the reference's: at every index both are the scale times
  the sum, over the four fields, of the sums over the packed rows (`Cert.Ternary.Ker.result_apply`, `Cert.Ternary.Ref.result_apply`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.KernelValue

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext k
  obtain ⟨i, N, rfl⟩ : ∃ (i : Fin 256) (N : Fin 11264), k = ValueIdx.ix2 i N := ⟨k 0, k 1, ValueIdx.eq_ix2 k⟩
  exact (Cert.Ternary.Ref.result_apply _ _ _ i N).trans (Cert.Ternary.Ker.result_apply m c i N).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
